-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S8192x256 : Shape := ⟨2, ![8192, 256]⟩
abbrev S_ : Shape := ⟨0, ![]⟩

class Facts : Prop where
  bcast_S_S4096x256 : S_.BroadcastsInDim S4096x256 (![] : Fin 0 → Fin S4096x256.rank)
  bcast_S_S8192x256 : S_.BroadcastsInDim S8192x256 (![] : Fin 0 → Fin S8192x256.rank)

variable [Facts]

def fn {F : FTy → Type} [FloatOps F] (main_arg0 : FVec F S4096x256 .f32) (main_arg1 : FVec F S8192x256 .f32) : IVec S4096x256 1 × IVec S8192x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  (main_v2, main_v5)
-- ==== Kernel.lean ====
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8x1x1024 : Shape := ⟨3, ![8, 1, 1024]⟩
abbrev S512x256 : Shape := ⟨2, ![512, 256]⟩
abbrev S512x1 : Shape := ⟨2, ![512, 1]⟩
abbrev S1024x256 : Shape := ⟨2, ![1024, 256]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S1x8192x256 : Shape := ⟨3, ![1, 8192, 256]⟩

abbrev nBuf : Space → Nat
  | .hbm => 13
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8x1x1024, .f32⟩
  | .hbm, ⟨10, _⟩ => ⟨S4096x1, .i32⟩
  | .hbm, ⟨11, _⟩ => ⟨S4096, .i32⟩
  | .hbm, ⟨12, _⟩ => ⟨S1x8192x256, .f32⟩
  | .local _ .vmem, ⟨0, _⟩ => ⟨S512x256, .f32⟩
  | .local _ .vmem, ⟨1, _⟩ => ⟨S512x256, .f32⟩
  | .local _ .vmem, ⟨2, _⟩ => ⟨S512x1, .f32⟩
  | .local _ .vmem, ⟨3, _⟩ => ⟨S512x1, .f32⟩
  | .local _ .vmem, ⟨4, _⟩ => ⟨S1024x256, .f32⟩
  | .local _ .vmem, ⟨5, _⟩ => ⟨S1024x256, .f32⟩
  | .local _ .vmem, ⟨6, _⟩ => ⟨S1x1x1024, .f32⟩
  | .local _ .vmem, ⟨7, _⟩ => ⟨S1x1x1024, .f32⟩
  | .local _ .vmem, ⟨8, _⟩ => ⟨S512x1, .i32⟩
  | .local _ .vmem, ⟨9, _⟩ => ⟨S512x1, .i32⟩
  | .local _ .vmem, ⟨10, _⟩ => ⟨S512x1024, .f32⟩
  | .local _ .vmem, ⟨11, _⟩ => ⟨S512x1024, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S256x8192 : Shape := ⟨2, ![256, 8192]⟩
abbrev S4096x8192 : Shape := ⟨2, ![4096, 8192]⟩
abbrev S8192x1 : Shape := ⟨2, ![8192, 1]⟩
abbrev S1x8192x256 : Shape := ⟨3, ![1, 8192, 256]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S256x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .i32⟩
  | .hbm, ⟨24, _⟩ => ⟨S_, .f32⟩
  | .hbm, ⟨25, _⟩ => ⟨S_, .i32⟩
  | .hbm, ⟨26, _⟩ => ⟨S4096, .f32⟩
  | .hbm, ⟨27, _⟩ => ⟨S4096, .i32⟩
  | .hbm, ⟨28, _⟩ => ⟨S_, .f32⟩
  | .hbm, ⟨29, _⟩ => ⟨S8192x256, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S8192x256, .f32⟩
  | .hbm, ⟨39, _⟩ => ⟨S_, .f32⟩
  | .hbm, ⟨40, _⟩ => ⟨S8192, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S_, .f32⟩
  | .hbm, ⟨50, _⟩ => ⟨S4096, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .i1⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x256, .f32⟩
  | .hbm, ⟨61, _⟩ => ⟨S8192x256, .f32⟩
  | .hbm, ⟨62, _⟩ => ⟨S8192x256, .i1⟩
  | .hbm, ⟨63, _⟩ => ⟨S8192x256, .f32⟩
  | .hbm, ⟨64, _⟩ => ⟨S1x8192x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Proof.Dist.lean ====
/- The distance of a point to a centroid over the extended reals, as the reference forms it and as the kernel forms
   it, and that the two are equal when every coordinate is finite. -/
module

public import Idealize.ShloMosaic.Lib.Pointwise

@[expose] public section

noncomputable section

namespace Cert.Dist

open Idealize.ShloMosaic

/-- A matrix of `n` rows of 256 coordinates. -/
abbrev Rows (n : Nat) := FVec Ideal ⟨2, ![n, 256]⟩ .f32

/-- The squared length of row `i`. -/
def sq {n : Nat} (X : Rows n) (i : Fin n) : EReal := ∑ d : Fin 256, X (ix2 i d) * X (ix2 i d)

/-- The inner product of row `i` of `X` and row `k` of `C`. -/
def inner {n p : Nat} (X : Rows n) (C : Rows p) (i : Fin n) (k : Fin p) : EReal := ∑ d : Fin 256, X (ix2 i d) * C (ix2 k d)

/-- The distance as the reference forms it. -/
def dist {n p : Nat} (X : Rows n) (C : Rows p) (i : Fin n) (k : Fin p) : EReal :=
  Ideal.sqrt (max (sq X i + sq C k - Ideal.ofBits .f32 0x40000000#32 * inner X C i k) 0)

/-- The distance as the kernel forms it: the points scaled by `-2` go into the product. -/
def kdist {n p : Nat} (X : Rows n) (C : Rows p) (i : Fin n) (k : Fin p) : EReal :=
  Ideal.sqrt (max (sq X i + sq C k + ∑ d : Fin 256, X (ix2 i d) * Ideal.ofBits .f32 0xC0000000#32 * C (ix2 k d)) 0)

theorem two_word : Ideal.ofBits .f32 0x40000000#32 = ((2 : ℝ) : EReal) := by
  simp [Ideal.ofBits, Ideal.ieee, -EReal.coe_mul]; norm_num

theorem neg_two_word : Ideal.ofBits .f32 0xC0000000#32 = ((-2 : ℝ) : EReal) := by
  simp [Ideal.ofBits, Ideal.ieee, -EReal.coe_mul]; norm_num

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- For finite coordinates the kernel's distance is the reference's. -/
theorem kdist_eq {n p : Nat} (X : Rows n) (C : Rows p) (i : Fin n) (k : Fin p)
    (hX : ∀ d, ∃ r : ℝ, X (ix2 i d) = (r : EReal)) (hC : ∀ d, ∃ r : ℝ, C (ix2 k d) = (r : EReal)) :
    kdist X C i k = dist X C i k := by
  choose x hx using hX
  choose y hy using hC
  unfold kdist dist
  congr 2
  rw [sub_eq_add_neg]
  congr 1
  unfold inner
  simp only [hx, hy, two_word, neg_two_word, ← EReal.coe_mul]
  rw [coe_sum, coe_sum, ← EReal.coe_mul, ← EReal.coe_neg, Finset.mul_sum, ← Finset.sum_neg_distrib]
  congr 1
  exact Finset.sum_congr rfl fun d _ => by ring

end Cert.Dist

end
-- ==== Proof.Argmin.lean ====
/- The first column at which a row of distances is least: that it is unique, that the reference's fold over value and
   index pairs finds it, that a lane's running minimum keeps its own first least block, and that the kernel's closing
   minimum over the lanes finds the row's. -/
module

public import proofs.«01_k».proof.Proof.Gen.ReferenceIdeal
public import Idealize.ShloMosaic.Lib.Pointwise
public import Idealize.ShloMosaic.PureOps.Ideal.Laws

@[expose] public section

noncomputable section

namespace Cert.Argmin

open Idealize.ShloMosaic

/-- `k` is the first of the `n` columns at which `D` is least. -/
def First (D : ℕ → EReal) (n k : ℕ) : Prop := k < n ∧ (∀ j < n, D k ≤ D j) ∧ ∀ j < k, D k < D j

theorem First.unique {D : ℕ → EReal} {n k k' : ℕ} (h : First D n k) (h' : First D n k') : k = k' := by
  rcases lt_trichotomy k k' with hlt | heq | hgt
  · exact absurd (h.2.1 k' h'.1) (not_le.mpr (h'.2.2 k hlt))
  · exact heq
  · exact absurd (h'.2.1 k h.1) (not_le.mpr (h.2.2 k' hgt))

/-! ### Index words -/

theorem word_toInt {k : ℕ} (h : k < 2 ^ 31) : (BitVec.ofNat 32 k).toInt = (k : ℤ) := by
  rw [BitVec.toInt_eq_toNat_of_lt (by rw [BitVec.toNat_ofNat]; omega), BitVec.toNat_ofNat]
  congr 1
  exact Nat.mod_eq_of_lt (by omega)

/-! ### The reference: a fold of pairs by value, then by index -/

/-- The order the reference's pairs are compared in. -/
def Below (p q : EReal × BitVec 32) : Prop := p.1 < q.1 ∨ p.1 = q.1 ∧ p.2.toInt ≤ q.2.toInt

theorem Below.refl (p : EReal × BitVec 32) : Below p p := .inr ⟨rfl, le_rfl⟩

theorem Below.trans {p q r : EReal × BitVec 32} (h : Below p q) (h' : Below q r) : Below p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reference's comparison of two pairs. -/
abbrev pick : EReal × BitVec 32 → EReal × BitVec 32 → EReal × BitVec 32 :=
  Cert.ReferenceIdeal.reducer_argmin_f32_i32 (F := Ideal)

theorem pick_spec (a b : EReal × BitVec 32) : (pick a b = a ∨ pick a b = b) ∧ Below (pick a b) a ∧ Below (pick a b) b := by
  have e : pick a b = (if a.1 < b.1 then a.1 else b.1,
      if a.1 < b.1 ∨ a.1 = b.1 ∧ a.2.toInt < b.2.toInt then a.2 else b.2) := by
    unfold pick Cert.ReferenceIdeal.reducer_argmin_f32_i32
    pointwise
    by_cases h1 : a.1 < b.1 <;> by_cases h2 : a.1 = b.1 <;> by_cases h3 : a.2.toInt < b.2.toInt <;>
      simp [Scalar.select, IntOp.ori, IntOp.andi, IntOp.cmpi, BitVec.slt, h1, h2, h3]
  obtain ⟨x, i⟩ := a
  obtain ⟨y, j⟩ := b
  dsimp only at e
  by_cases h : x < y
  · have e' : pick (x, i) (y, j) = (x, i) := by rw [e, if_pos h, if_pos (.inl h)]
    rw [e']
    exact ⟨.inl rfl, Below.refl _, .inl h⟩
  · by_cases h' : x = y ∧ i.toInt < j.toInt
    · have e' : pick (x, i) (y, j) = (x, i) := by rw [e, if_neg h, if_pos (.inr h'), h'.1]
      rw [e']
      exact ⟨.inl rfl, Below.refl _, .inr ⟨h'.1, h'.2.le⟩⟩
    · have e' : pick (x, i) (y, j) = (y, j) := by rw [e, if_neg h, if_neg (by tauto)]
      rw [e']
      refine ⟨.inr rfl, ?_, Below.refl _⟩
      rcases (not_lt.mp h).lt_or_eq with hlt | heq
      · exact .inl hlt
      · exact .inr ⟨heq, not_lt.mp fun hlt => h' ⟨heq.symm, hlt⟩⟩

theorem foldl_pick (l : List (EReal × BitVec 32)) (a : EReal × BitVec 32) :
    (l.foldl pick a ∈ a :: l) ∧ ∀ p ∈ a :: l, Below (l.foldl pick a) p := by
  induction l generalizing a with
  | nil => exact ⟨List.mem_cons_self, fun p hp => by rw [List.mem_singleton.mp hp]; exact Below.refl _⟩
  | cons b l ih =>
    obtain ⟨hm, hb⟩ := ih (pick a b)
    obtain ⟨hc, ha, hbb⟩ := pick_spec a b
    rw [List.foldl_cons]
    constructor
    · rcases List.mem_cons.mp hm with h | h
      · rcases hc with h' | h'
        · rw [h, h']; exact List.mem_cons_self
        · rw [h, h']; exact List.mem_cons_of_mem _ List.mem_cons_self
      · exact List.mem_cons_of_mem _ (List.mem_cons_of_mem _ h)
    · intro p hp
      have h0 := hb _ List.mem_cons_self
      rcases List.mem_cons.mp hp with rfl | hp
      · exact h0.trans ha
      · rcases List.mem_cons.mp hp with rfl | hp
        · exact h0.trans hbb
        · exact hb _ (List.mem_cons_of_mem _ hp)

theorem inf_word : Ideal.ofBits .f32 0x7F800000#32 = ⊤ := by
  simp [Ideal.ofBits, Ideal.ieee]

abbrev S4096x8192 : Shape := ⟨2, ![4096, 8192]⟩
abbrev S4096 : Shape := ⟨1, ![4096]⟩

/-- The reference's argmin of a row is the row's first least column. -/
theorem ref_first (x : FVec Ideal S4096x8192 .f32) (h : S4096x8192.ReducesTo [1] S4096) {u : Shape} (hu : 0 < u.numel)
    (i : Fin 4096) (D : ℕ → EReal) (hD : ∀ k : Fin 8192, D k.val = x (ix2 i k)) :
    ∃ k, First D 8192 k ∧
      (Host.argReduce Cert.ReferenceIdeal.reducer_argmin_f32_i32 x (iotaInDim S4096x8192 32 1)
        (constant u .f32 0x7F800000#32) (constantI u 32 0#32) h hu (ix1 i)).2 = BitVec.ofNat 32 k := by
  rw [Ideal.argReduce_eq_reduce2, Host.reduce2_eq_foldl_fiber]
  have drop (a : Fin 4096) (b : Fin 8192) : h.drop (ix2 a b) = ix1 a := by
    funext y
    fin_cases y
    rfl
  have fiber (p : EReal × BitVec 32) : p ∈ Host.argReduceFiber x (iotaInDim S4096x8192 32 1) h (ix1 i)
      ↔ ∃ k : Fin 8192, p = (D k.val, BitVec.ofNat 32 k.val) := by
    unfold Host.argReduceFiber
    simp only [List.mem_map, List.mem_filter, List.mem_finRange, true_and, decide_eq_true_eq]
    constructor
    · rintro ⟨n, hn, rfl⟩
      generalize S4096x8192.rowMajor.symm n = q at hn
      obtain ⟨a, b, rfl⟩ : ∃ (a : Fin 4096) (b : Fin 8192), q = ix2 a b := ⟨q 0, q 1, eq_ix2 q⟩
      rw [drop] at hn
      have ha : a = i := congrFun hn 0
      subst ha
      exact ⟨b, by rw [hD]; rfl⟩
    · rintro ⟨k, rfl⟩
      refine ⟨S4096x8192.rowMajor (ix2 i k), ?_, ?_⟩
      · rw [Equiv.symm_apply_apply, drop]
      · rw [Equiv.symm_apply_apply, hD]; rfl
  obtain ⟨hm, hb⟩ := foldl_pick (Host.argReduceFiber x (iotaInDim S4096x8192 32 1) h (ix1 i))
    ((constant u .f32 0x7F800000#32 : FVec Ideal u .f32) (Shape.Idx.first hu), (constantI u 32 0#32) (Shape.Idx.first hu))
  have e0 : ((constant u .f32 0x7F800000#32 : FVec Ideal u .f32) (Shape.Idx.first hu), (constantI u 32 0#32) (Shape.Idx.first hu))
      = ((⊤ : EReal), BitVec.ofNat 32 0) := by rw [← inf_word]; rfl
  rw [e0] at hm hb ⊢
  change ∃ k, First D 8192 k ∧ (List.foldl pick _ _).2 = _
  generalize List.foldl pick ((⊤ : EReal), BitVec.ofNat 32 0) (Host.argReduceFiber x (iotaInDim S4096x8192 32 1) h (ix1 i)) = res at hm hb ⊢
  have le (k : ℕ) (hk : k < 8192) : Below res (D k, BitVec.ofNat 32 k) :=
    hb _ (List.mem_cons_of_mem _ ((fiber _).mpr ⟨⟨k, hk⟩, rfl⟩))
  have main (k : ℕ) (hk : k < 8192) (hr : res = (D k, BitVec.ofNat 32 k)) : First D 8192 k := by
    refine ⟨hk, fun j hj => ?_, fun j hj => ?_⟩
    · rcases le j hj with h | ⟨h, -⟩ <;> rw [hr] at h
      · exact h.le
      · exact h.le
    · rcases le j (hj.trans hk) with h | ⟨-, h⟩ <;> rw [hr] at h
      · exact h
      · rw [word_toInt (by omega), word_toInt (by omega)] at h
        omega
  rcases List.mem_cons.mp hm with hr | hr
  · have hall (j : ℕ) (hj : j < 8192) : D j = ⊤ := by
      rcases le j hj with h | ⟨h, -⟩ <;> rw [hr] at h
      · exact absurd h not_top_lt
      · exact h.symm
    exact ⟨0, main 0 (by decide) (by rw [hr, hall 0 (by decide)]), by rw [hr]⟩
  · obtain ⟨k, hk⟩ := (fiber _).mp hr
    exact ⟨k.val, main k.val k.isLt hk, by rw [hk]⟩

/-! ### The kernel: a running minimum per lane -/

/-- `b` is the first of the blocks `0, …, j` at which `f` is least. -/
def Best (f : ℕ → EReal) (j b : ℕ) : Prop := b ≤ j ∧ (∀ j' ≤ j, f b ≤ f j') ∧ ∀ j' < b, f b < f j'

theorem Best.zero (f : ℕ → EReal) : Best f 0 0 :=
  ⟨le_rfl, fun j hj => by rw [Nat.le_zero.mp hj], fun j hj => absurd hj (Nat.not_lt_zero j)⟩

/-- The next block takes over only where it is strictly less. -/
theorem Best.succ {f : ℕ → EReal} {j b : ℕ} (h : Best f j b) : Best f (j + 1) (if f (j + 1) < f b then j + 1 else b) := by
  obtain ⟨h0, h1, h2⟩ := h
  split
  next hlt =>
    refine ⟨le_rfl, fun j' hj' => ?_, fun j' hj' => hlt.trans_le (h1 j' (by omega))⟩
    rcases Nat.lt_or_ge j' (j + 1) with hj | hj
    · exact (hlt.trans_le (h1 j' (by omega))).le
    · rw [show j' = j + 1 by omega]
  next hge =>
    refine ⟨by omega, fun j' hj' => ?_, h2⟩
    rcases Nat.lt_or_ge j' (j + 1) with hj | hj
    · exact h1 j' (by omega)
    · rw [show j' = j + 1 by omega]; exact not_lt.mp hge

/-- A signed minimum taken over a set is below its start and every entry, and is one of them. -/
theorem fold_minsi {ι : Type} (s : Finset ι) (b : BitVec 32) (f : ι → BitVec 32) :
    (s.fold IntOp.minsi b f).toInt ≤ b.toInt ∧ (∀ x ∈ s, (s.fold IntOp.minsi b f).toInt ≤ (f x).toInt)
      ∧ (s.fold IntOp.minsi b f = b ∨ ∃ x ∈ s, s.fold IntOp.minsi b f = f x) := by
  classical
  have two (a c : BitVec 32) : (IntOp.minsi a c).toInt ≤ a.toInt ∧ (IntOp.minsi a c).toInt ≤ c.toInt
      ∧ (IntOp.minsi a c = a ∨ IntOp.minsi a c = c) := by
    unfold IntOp.minsi
    by_cases h : a.toInt < c.toInt
    · rw [if_pos (by simpa [BitVec.slt] using h)]
      exact ⟨le_rfl, h.le, .inl rfl⟩
    · rw [if_neg (by simpa [BitVec.slt] using h)]
      exact ⟨not_lt.mp h, le_rfl, .inr rfl⟩
  induction s using Finset.induction_on with
  | empty => simp
  | insert a s ha ih =>
    rw [Finset.fold_insert ha]
    obtain ⟨i0, i1, i2⟩ := ih
    obtain ⟨t0, t1, t2⟩ := two (f a) (s.fold IntOp.minsi b f)
    refine ⟨t1.trans i0, fun x hx => ?_, ?_⟩
    · rcases Finset.mem_insert.mp hx with rfl | hx
      · exact t0
      · exact t1.trans (i1 x hx)
    · rcases t2 with t2 | t2
      · exact .inr ⟨a, Finset.mem_insert_self a s, t2⟩
      · rw [t2]
        rcases i2 with i2 | ⟨x, hx, i2⟩
        · exact .inl i2
        · exact .inr ⟨x, Finset.mem_insert_of_mem hx, i2⟩

/-- The closing step of a row: over lanes that each hold their first least block of eight, the least index among the
    lanes that attain the least distance is the row's first least column. -/
theorem lanes_first (D : ℕ → EReal) (v : Fin 1024 → EReal) (w : Fin 1024 → BitVec 32)
    (h : ∀ l : Fin 1024, ∃ b, Best (fun j => D (j * 1024 + l.val)) 7 b ∧ v l = D (b * 1024 + l.val)
      ∧ w l = BitVec.ofNat 32 (b * 1024 + l.val)) :
    ∃ k, First D 8192 k ∧ Finset.fold IntOp.minsi (2147483647#32)
      (fun l => if v l = Finset.fold min (Ideal.ofBits .f32 0x7F800000#32) v Finset.univ then w l else 8192#32)
      (Finset.univ : Finset (Fin 1024)) = BitVec.ofNat 32 k := by
  rw [inf_word]
  generalize hM : Finset.fold min (⊤ : EReal) v Finset.univ = M
  have hle (l : Fin 1024) : M ≤ v l := (Finset.le_fold_min M).mp hM.ge |>.2 l (Finset.mem_univ l)
  obtain ⟨l0, hl0⟩ : ∃ l, v l = M := by
    rcases (Finset.fold_min_le M).mp hM.le with ht | ⟨l, -, hl⟩
    · exact ⟨0, le_antisymm (le_top.trans ht) (hle 0)⟩
    · exact ⟨l, le_antisymm hl (hle l)⟩
  choose b hb hv hw using h
  have hb8 (l : Fin 1024) : b l ≤ 7 := (hb l).1
  obtain ⟨-, f1, f2⟩ := fold_minsi (Finset.univ : Finset (Fin 1024)) (2147483647#32) (fun l => if v l = M then w l else 8192#32)
  generalize Finset.fold IntOp.minsi (2147483647#32) (fun l => if v l = M then w l else 8192#32)
    (Finset.univ : Finset (Fin 1024)) = r at f1 f2
  have att (l : Fin 1024) (hl : v l = M) : r.toInt ≤ ((b l * 1024 + l.val : ℕ) : ℤ) := by
    have h := f1 l (Finset.mem_univ l)
    rw [if_pos hl, hw, word_toInt (by have := hb8 l; have := l.isLt; omega)] at h
    exact h
  have small : r.toInt < 8192 := by
    have := att l0 hl0; have := hb8 l0; have := l0.isLt; omega
  obtain ⟨x, hx, hr⟩ : ∃ x, v x = M ∧ r = BitVec.ofNat 32 (b x * 1024 + x.val) := by
    rcases f2 with f2 | ⟨x, -, f2⟩
    · rw [f2] at small; exact absurd small (by decide)
    · by_cases hx : v x = M
      · exact ⟨x, hx, by rw [f2, if_pos hx, hw]⟩
      · rw [f2, if_neg hx] at small; exact absurd small (by decide)
  have hxb := hb8 x
  have hxl := x.isLt
  have hri : r.toInt = ((b x * 1024 + x.val : ℕ) : ℤ) := by rw [hr, word_toInt (by omega)]
  have lane (j : ℕ) (hj : j < 8192) : ∃ l : Fin 1024, v l ≤ D j ∧ (D j ≤ v l → b l * 1024 + l.val ≤ j) := by
    have hs : j / 1024 * 1024 + j % 1024 = j := by omega
    refine ⟨⟨j % 1024, by omega⟩, ?_, fun hd => ?_⟩
    · have := (hb ⟨j % 1024, by omega⟩).2.1 (j / 1024) (by omega)
      rw [hv]
      simpa only [hs] using this
    · by_contra hc
      have hq : j / 1024 < b ⟨j % 1024, by omega⟩ := by
        have hc' : ¬ b ⟨j % 1024, by omega⟩ * 1024 + j % 1024 ≤ j := hc
        omega
      have := (hb ⟨j % 1024, by omega⟩).2.2 (j / 1024) hq
      simp only [hs] at this
      rw [hv] at hd
      exact absurd hd (not_le.mpr this)
  refine ⟨b x * 1024 + x.val, ⟨by omega, fun j hj => ?_, fun j hj => ?_⟩, hr⟩
  · obtain ⟨l, h1, -⟩ := lane j hj
    rw [← hv, hx]
    exact (hle l).trans h1
  · obtain ⟨l, h1, h2⟩ := lane j (by omega)
    rw [← hv, hx]
    refine lt_of_le_of_ne ((hle l).trans h1) fun he => ?_
    have hl : v l = M := le_antisymm (h1.trans he.ge) (hle l)
    have := h2 (by rw [hl, he])
    have := att l hl
    omega

end Cert.Argmin

end
-- ==== Proof.Reference.lean ====
/- The reference's side: its distances entry by entry, what the precondition says of an entry, and that its run ends
   with every counter at zero. -/
module

public import proofs.«01_k».proof.Defs
public import proofs.«01_k».proof.Proof.Dist
public import proofs.«01_k».proof.Proof.Argmin
public import proofs.«01_k».proof.Proof.Gen.KernelIdeal
public import proofs.«01_k».proof.Proof.Gen.Kernel
public import proofs.«01_k».proof.Proof.Gen.ReferenceIdeal
public import proofs.«01_k».proof.Proof.Gen.Pre_finite
public import Idealize.ShloMosaic.Adequacy
public import Idealize.ShloMosaic.Lib.Claim
public import Idealize.ShloMosaic.Init

@[expose] public section

noncomputable section

namespace Cert.Reference

open Idealize.ShloMosaic Idealize.ShloMosaic.TcCoe Idealize.SL.Sem

/-- An extended real of absolute value below infinity is a real. -/
theorem real_of_abs {a : EReal} (h : BitVec.ofBool (decide (FloatOps.absf (F := Ideal) (φ := .f32) a < Ideal.ofBits .f32 2139095040#32)) = 1#1) :
    ∃ r : ℝ, a = (r : EReal) := by
  rw [show Ideal.ofBits .f32 2139095040#32 = ⊤ from Cert.Argmin.inf_word, Ideal.absf_def] at h
  have h : max a (-a) < ⊤ := by
    by_contra hn
    rw [decide_eq_false hn] at h
    exact absurd h (by decide)
  induction a using EReal.rec with
  | bot => exact absurd h (by simp)
  | top => exact absurd h (by simp)
  | coe r => exact ⟨r, rfl⟩

theorem real_points (X : Cert.Dist.Rows 4096) (C : Cert.Dist.Rows 8192)
    (h : (Cert.Pre_finite.fn (F := Ideal) X C).1 = fun _ => 1#1) (i : Fin 4096) (d : Fin 256) :
    ∃ r : ℝ, X (ix2 i d) = (r : EReal) := by
  have h := congrFun h (ix2 i d)
  unfold Cert.Pre_finite.fn at h
  pointwise at h
  exact real_of_abs h

theorem real_cents (X : Cert.Dist.Rows 4096) (C : Cert.Dist.Rows 8192)
    (h : (Cert.Pre_finite.fn (F := Ideal) X C).2 = fun _ => 1#1) (i : Fin 8192) (d : Fin 256) :
    ∃ r : ℝ, C (ix2 i d) = (r : EReal) := by
  have h := congrFun h (ix2 i d)
  unfold Cert.Pre_finite.fn at h
  pointwise at h
  exact real_of_abs h

set_option maxHeartbeats 4000000 in
/-- The reference's run leaves its arguments alone; a program with no semaphore ends with every counter at zero. -/
theorem frame : Cert.quiescent_ReferenceIdeal (hReferenceIdeal := Cert.ReferenceIdeal.Gen.facts) := by
  intro m g _
  refine (θ_run Cert.ReferenceIdeal.defs _ _).mono (fun r h => ⟨h, sem_eq_zero_of_no_sems (by decide) r.2⟩) ?_
  hlo_run

section
open Cert.ReferenceIdeal Cert.ReferenceIdeal.Facts₀
variable (X : Cert.Dist.Rows 4096) (C : Cert.Dist.Rows 8192)

/-- The reference's distances, as its run names them. -/
def distances : FVec Ideal Cert.Argmin.S4096x8192 .f32 :=
  Host.sqrt (maximumf
    (subf
      (addf
        (broadcastInDim S4096x8192 ![0, 1] bcast_S4096x1_S4096x8192_0_1 (broadcastInDim S4096x1 ![0] bcast_S4096_S4096x1_0
          (Host.reduceAdd (mulf X X) (constant S_ .f32 0#32) reducesTo_S4096x256_S4096_d1 h_S_)))
        (broadcastInDim S4096x8192 ![0, 1] bcast_S1x8192_S4096x8192_0_1 (broadcastInDim S1x8192 ![1] bcast_S8192_S1x8192_1
          (Host.reduceAdd (mulf C C) (constant S_ .f32 0#32) reducesTo_S8192x256_S8192_d1 h_S_))))
      (mulf (broadcastInDim S4096x8192 ![] bcast_S_S4096x8192 (constant S_ .f32 0x40000000#32))
        (Host.dotGeneral dot_S4096x256_S256x8192_S4096x8192_1_0_0_1_n_n none X
          (transpose S256x8192 [1, 0] C transposes_S8192x256_S256x8192_1_0))))
    (broadcastInDim S4096x8192 ![] bcast_S_S4096x8192 (constant S_ .f32 0#32)))

theorem distances_apply (i : Fin 4096) (k : Fin 8192) : distances X C (ix2 i k) = Cert.Dist.dist X C i k := by
  unfold distances
  pointwise [dot_S4096x256_S256x8192_S4096x8192_1_0_0_1_n_n]
  rfl

end

end Cert.Reference

end
-- ==== Proof.Body.lean ====
/- What each kind of grid step of the kernel leaves in its running scratch and in its output block. -/
module

public import proofs.«01_k».proof.Proof.Gen.KernelIdeal.Frame
public import Idealize.ShloMosaic.Lib.Pipeline.Value
public import Idealize.ShloMosaic.Lib.Tactic

@[expose] public section

noncomputable section

namespace Cert.KernelIdeal.Body

open Idealize.ShloMosaic Idealize.ShloMosaic.TcCoe Idealize.SL.Sem
open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

section
variable (c : Dev nD) (i : grid0.Coords)
  (a2 : Memref sig .tc .vmem S512x256 .f32) (h2 : a2.IsWhole) (a3 : Memref sig .tc .vmem S512x1 .f32) (h3 : a3.IsWhole)
  (a4 : Memref sig .tc .vmem S1024x256 .f32) (h4 : a4.IsWhole) (a5 : Memref sig .tc .vmem S1x1x1024 .f32) (h5 : a5.IsWhole)
  (a6 : Memref sig .tc .vmem S512x1 .i32) (h6 : a6.IsWhole) (a7 : Memref sig .tc .vmem S512x1024 .f32) (h7 : a7.IsWhole)
  (a8 : Memref sig .tc .vmem S512x1024 .i32) (h8 : a8.IsWhole)
  (x0 : Vec F S512x256 .f32) (x1 : Vec F S512x1 .f32) (x2 : Vec F S1024x256 .f32) (x3 : Vec F S1x1x1024 .f32)
  (v : Vec F S512x1024 .f32) (w : Vec F S512x1024 .i32)

/-- The first column block of a row block stores its distances as the running minimum. -/
theorem first_val (hc0 : cond0_0 i) (hc1 : ¬cond0_1 i) (hc2 : ¬cond0_2 i) :
    sout0_A_0 c i a2 h2 a3 h3 a4 h4 a5 h5 a6 h6 a7 h7 a8 h8 hc0 hc1 hc2 x0 x1 x2 x3 = k0_pay1 x0 x2 x1 x3 := by
  unfold sout0_A_0
  rw [View.read_writes_eq_canon _ _ _ (scover0_A_0 c i a2 h2 a3 h3 a4 h4 a5 h5 a6 h6 a7 h7 a8 h8 hc0 hc1 hc2 x0 x1 x2 x3)]
  unfold kernelRun0_A
  dsimp only
  sl_unfold_words
  rw [View.canon_unit_zero off2]
  unfold k0_pay3
  simp only [View.readAt_eq_ld, h2.read_unread, h3.read_unread, h4.read_unread, h5.read_unread,
    View.ld_unit_zero (S := S512x256) off2, View.ld_unit_zero (S := S512x1) off2, View.ld_unit_zero (S := S1024x256) off2,
    View.ld_unit_zero (S := S1x1x1024) off3, shapeCast_self]

/-- The first column block of a row block stores its column numbers as the running winners. -/
theorem first_idx (hc0 : cond0_0 i) (hc1 : ¬cond0_1 i) (hc2 : ¬cond0_2 i) :
    sout0_A_1 c i a2 h2 a3 h3 a4 h4 a5 h5 a6 h6 a7 h7 a8 h8 hc0 hc1 hc2 x0 x1 x2 x3 = k0_pay2 i := by
  unfold sout0_A_1
  rw [View.read_writes_eq_canon _ _ _ (scover0_A_1 c i a2 h2 a3 h3 a4 h4 a5 h5 a6 h6 a7 h7 a8 h8 hc0 hc1 hc2 x0 x1 x2 x3)]
  unfold kernelRun0_A
  dsimp only
  sl_unfold_words
  rw [View.canon_unit_zero off2]
  unfold k0_pay4
  simp only [shapeCast_self]

/-- A middle column block lowers the running minimum. -/
theorem mid_val (hc0 : ¬cond0_0 i) (hc1 : cond0_1 i) (hc2 : ¬cond0_2 i) :
    sout0_B_0 c i a2 h2 a3 h3 a4 h4 a5 h5 a6 h6 a7 h7 a8 h8 hc0 hc1 hc2 x0 x1 x2 x3 v w = minimumf (k0_pay1 x0 x2 x1 x3) v := by
  unfold sout0_B_0
  rw [View.read_writes_eq_canon _ _ _ (scover0_B_0 c i a2 h2 a3 h3 a4 h4 a5 h5 a6 h6 a7 h7 a8 h8 hc0 hc1 hc2 x0 x1 x2 x3 v w)]
  unfold kernelRun0_B
  dsimp only
  sl_unfold_words
  rw [View.canon_unit_zero off2]
  unfold k0_pay5
  simp only [View.readAt_eq_ld, h2.read_unread, h3.read_unread, h4.read_unread, h5.read_unread, h7.read_unread,
    View.ld_unit_zero (S := S512x256) off2, View.ld_unit_zero (S := S512x1) off2, View.ld_unit_zero (S := S1024x256) off2,
    View.ld_unit_zero (S := S1x1x1024) off3, View.ld_unit_zero (S := S512x1024) off2, shapeCast_self]

/-- A middle column block moves a lane's winner where it is strictly nearer. -/
theorem mid_idx (hc0 : ¬cond0_0 i) (hc1 : cond0_1 i) (hc2 : ¬cond0_2 i) :
    sout0_B_1 c i a2 h2 a3 h3 a4 h4 a5 h5 a6 h6 a7 h7 a8 h8 hc0 hc1 hc2 x0 x1 x2 x3 v w
      = select (cmpf .olt (k0_pay1 x0 x2 x1 x3) v) (k0_pay2 i) w := by
  unfold sout0_B_1
  rw [View.read_writes_eq_canon _ _ _ (scover0_B_1 c i a2 h2 a3 h3 a4 h4 a5 h5 a6 h6 a7 h7 a8 h8 hc0 hc1 hc2 x0 x1 x2 x3 v w)]
  unfold kernelRun0_B
  dsimp only
  sl_unfold_words
  rw [View.canon_unit_zero off2]
  unfold k0_pay6
  simp only [View.readAt_eq_ld, h2.read_unread, h3.read_unread, h4.read_unread, h5.read_unread, h7.read_unread, h8.read_unread,
    View.ld_unit_zero (S := S512x256) off2, View.ld_unit_zero (S := S512x1) off2, View.ld_unit_zero (S := S1024x256) off2,
    View.ld_unit_zero (S := S1x1x1024) off3, View.ld_unit_zero (S := S512x1024) off2, shapeCast_self]

/-- The last column block emits each row's winner over the scratch it has just updated. -/
theorem last_out (hc0 : ¬cond0_0 i) (hc1 : cond0_1 i) (hc2 : cond0_2 i) :
    out0_C_4 c i a2 h2 a3 h3 a4 h4 a5 h5 a6 h6 a7 h7 a8 h8 hc0 hc1 hc2 x0 x1 x2 x3 v w
      = k0_pay7 (minimumf (k0_pay1 x0 x2 x1 x3) v) (select (cmpf .olt (k0_pay1 x0 x2 x1 x3) v) (k0_pay2 i) w) := by
  unfold out0_C_4
  rw [View.read_writes_eq_canon _ _ _ (cover0_C_4 c i a2 h2 a3 h3 a4 h4 a5 h5 a6 h6 a7 h7 a8 h8 hc0 hc1 hc2 x0 x1 x2 x3 v w)]
  unfold kernelRun0_C
  dsimp only
  sl_unfold_words
  rw [View.canon_unit_zero (S := S512x1) off2, View.readCov_unit_zero (S := S512x1024) _ off2, View.readCov_unit_zero (S := S512x1024) _ off2]
  unfold k0_pay5 k0_pay6
  simp only [View.readAt_eq_ld, h2.read_unread, h3.read_unread, h4.read_unread, h5.read_unread, h7.read_unread, h8.read_unread,
    View.ld_unit_zero (S := S512x256) off2, View.ld_unit_zero (S := S512x1) off2, View.ld_unit_zero (S := S1024x256) off2,
    View.ld_unit_zero (S := S1x1x1024) off3, View.ld_unit_zero (S := S512x1024) off2, shapeCast_self]

end

end Cert.KernelIdeal.Body

end
-- ==== Proof.Blocks.lean ====
/- Which rows of the points and which rows of the centroids a grid step reads, and what the host lines before the
   kernel put in the two arrays of squared lengths. -/
module

public import proofs.«01_k».proof.Proof.Body
public import proofs.«01_k».proof.Proof.Dist
public import Idealize.ShloMosaic.Lib.Pointwise
public import Idealize.ShloMosaic.Lib.Claim

@[expose] public section

noncomputable section

namespace Cert.KernelIdeal.Body

open Idealize.ShloMosaic Idealize.ShloMosaic.TcCoe Idealize.SL.Sem
open Cert.KernelIdeal Cert.KernelIdeal.Gen

theorem steps : cfg0.N = 64 := N_0

/-- The row of the points that step `t` has at row `r` of its block. -/
def row (t : Fin cfg0.N) (r : Fin 512) : Fin 4096 :=
  ⟨512 * (t.val / 8) + r.val, by have := t.isLt; have := steps; have := r.isLt; omega⟩

/-- The centroid that step `t` has at lane `l` of its block. -/
def col (t : Fin cfg0.N) (l : Fin 1024) : Fin 8192 :=
  ⟨t.val % 8 * 1024 + l.val, by have := l.isLt; omega⟩

theorem col_val (t : Fin cfg0.N) (l : Fin 1024) : (col t l).val = t.val % 8 * 1024 + l.val := rfl

/-- The blocks each window stands at, step by step. -/
theorem wins : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = t.val % 8 ∧ win0_2.index t (1 : Fin 2) = 0)
    ∧ (win0_3.index t (0 : Fin 3) = t.val % 8 ∧ win0_3.index t (1 : Fin 3) = 0 ∧ win0_3.index t (2 : Fin 3) = 0)
    ∧ (win0_4.index t (0 : Fin 2) = t.val / 8 ∧ win0_4.index t (1 : Fin 2) = 0)
    ∧ (grid0.coords t 1).val = t.val % 8 :=
  (by decide +kernel : ∀ t : Fin grid0.N, _)

variable {F : FTy → Type} [FloatOps F] (m : (ℓ : Loc nD τ sig) → Buf (Elt F) ℓ) (c : Dev nD) (t : Fin cfg0.N)

theorem blk_points (r : Fin 512) (d : Fin 256) :
    (iblk m c 0 t : Vec F S512x256 .f32) (ix2 r d) = (m ((c : Thread nD τ).loc main_arg0) : Vec F S4096x256 .f32) (ix2 (row t r) d) := by
  unfold iblk
  rw [View.read_apply]
  show V m c main_arg0 _ = _
  rw [V_main_arg0]
  congr 1
  funext a
  apply Fin.ext
  have h := (wins t).1
  match a with
  | ⟨0, _⟩ => show win0_0.index t 0 * 512 + 1 * r.val = 512 * (t.val / 8) + r.val; rw [h.1]; omega
  | ⟨1, _⟩ => show win0_0.index t 1 * 256 + 1 * d.val = d.val; rw [h.2]; omega

theorem blk_cents (l : Fin 1024) (d : Fin 256) :
    (iblk m c 2 t : Vec F S1024x256 .f32) (ix2 l d) = (m ((c : Thread nD τ).loc main_arg1) : Vec F S8192x256 .f32) (ix2 (col t l) d) := by
  unfold iblk
  rw [View.read_apply]
  show V m c main_arg1 _ = _
  rw [V_main_arg1]
  congr 1
  funext a
  apply Fin.ext
  have h := (wins t).2.2.1
  match a with
  | ⟨0, _⟩ => show win0_2.index t 0 * 1024 + 1 * l.val = t.val % 8 * 1024 + l.val; rw [h.1]; omega
  | ⟨1, _⟩ => show win0_2.index t 1 * 256 + 1 * d.val = d.val; rw [h.2]; omega

theorem blk_points_sq (r : Fin 512) :
    (iblk m c 1 t : Vec F S512x1 .f32) (ix2 r 0) = (V m c main_v2 : Vec F S4096x1 .f32) (ix2 (row t r) 0) := by
  unfold iblk
  rw [View.read_apply]
  show V m c main_v2 _ = _
  congr 1
  funext a
  apply Fin.ext
  have h := (wins t).2.1
  match a with
  | ⟨0, _⟩ => show win0_1.index t 0 * 512 + 1 * r.val = 512 * (t.val / 8) + r.val; rw [h.1]; omega
  | ⟨1, _⟩ => show win0_1.index t 1 * 1 + 1 * 0 = 0; rw [h.2]

theorem blk_cents_sq (l : Fin 1024) :
    (iblk m c 3 t : Vec F S1x1x1024 .f32) (ix3 0 0 l)
      = (V m c main_v5 : Vec F S8x1x1024 .f32) (ix3 ⟨t.val % 8, Nat.mod_lt _ (by decide)⟩ 0 l) := by
  unfold iblk
  rw [View.read_apply]
  show V m c main_v5 _ = _
  congr 1
  funext a
  apply Fin.ext
  have h := (wins t).2.2.2.1
  match a with
  | ⟨0, _⟩ => show win0_3.index t 0 * 1 + 1 * 0 = t.val % 8; rw [h.1]; omega
  | ⟨1, _⟩ => show win0_3.index t 1 * 1 + 1 * 0 = 0; rw [h.2.1]
  | ⟨2, _⟩ => show win0_3.index t 2 * 1024 + 1 * l.val = l.val; rw [h.2.2]; omega

/-- The column numbers a step writes: those of its centroids. -/
theorem cols_apply (r : Fin 512) (l : Fin 1024) :
    k0_pay2 (grid0.coords t) (ix2 r l) = BitVec.ofNat 32 (col t l).val := by
  have h := (wins t).2.2.2.2.2
  pointwise [k0_pay2]
  rw [h]
  show _ = BitVec.ofNat 32 (t.val % 8 * 1024 + l.val)
  show BitVec.ofNat 32 l.val + BitVec.ofNat 32 (t.val % 8) * BitVec.ofNat 32 1024 = _
  rw [← BitVec.ofNat_mul, ← BitVec.ofNat_add]
  congr 1
  omega

end Cert.KernelIdeal.Body

namespace Cert.KernelIdeal.Body
open Idealize.ShloMosaic Idealize.ShloMosaic.TcCoe Idealize.SL.Sem
open Cert.KernelIdeal Cert.KernelIdeal.Gen
variable (m : (ℓ : Loc nD τ sig) → Buf (Elt Ideal) ℓ) (c : Dev nD) (t : Fin cfg0.N)

/-- The points and the centroids the program starts with. -/
abbrev pts : Cert.Dist.Rows 4096 := m ((c : Thread nD τ).loc main_arg0)
abbrev cents : Cert.Dist.Rows 8192 := m ((c : Thread nD τ).loc main_arg1)

theorem points_sq (i : Fin 4096) :
    (V m c main_v2 : Vec Ideal S4096x1 .f32) (ix2 i 0) = Cert.Dist.sq (pts m c) i := by
  unfold V V0
  simp only [List.flatten_cons, List.flatten_nil, List.append_nil]
  after_results
  pointwise [Cert.Dist.sq]

theorem cents_sq (l : Fin 1024) :
    (V m c main_v5 : Vec Ideal S8x1x1024 .f32) (ix3 ⟨t.val % 8, Nat.mod_lt _ (by decide)⟩ 0 l)
      = Cert.Dist.sq (cents m c) (col t l) := by
  unfold V V0
  simp only [List.flatten_cons, List.flatten_nil, List.append_nil]
  after_results
  pointwise [Cert.Dist.sq, col]

/-- What a step computes at row `r`, lane `l` of its block: the distance of that point to that centroid. -/
theorem block_dist (r : Fin 512) (l : Fin 1024) :
    k0_pay1 (iblk m c 0 t) (iblk m c 2 t) (iblk m c 1 t) (iblk m c 3 t) (ix2 r l)
      = Cert.Dist.kdist (pts m c) (cents m c) (row t r) (col t l) := by
  have h (x0 : Vec Ideal S512x256 .f32) (x1 : Vec Ideal S512x1 .f32) (x2 : Vec Ideal S1024x256 .f32)
      (x3 : Vec Ideal S1x1x1024 .f32) : k0_pay1 x0 x2 x1 x3 (ix2 r l)
      = Ideal.sqrt (max (x1 (ix2 r 0) + x3 (ix3 0 0 l)
          + ∑ x : Fin 256, x0 (ix2 r x) * Ideal.ofBits .f32 0xC0000000#32 * x2 (ix2 l x)) 0) := by
    pointwise [k0_pay1]
  rw [h, blk_points_sq, blk_cents_sq, points_sq, cents_sq]
  unfold Cert.Dist.kdist
  simp only [blk_points, blk_cents]

end Cert.KernelIdeal.Body

end
-- ==== Proof.Sweep.lean ====
/- The running scratch after every grid step, by induction on the step, and the output array after the last. -/
module

public import proofs.«01_k».proof.Proof.Blocks
public import proofs.«01_k».proof.Proof.Argmin

@[expose] public section

noncomputable section

namespace Cert.KernelIdeal.Body

open Idealize.ShloMosaic Idealize.ShloMosaic.TcCoe Idealize.SL.Sem
open Cert.KernelIdeal Cert.KernelIdeal.Gen Cert.Argmin

variable (m : (ℓ : Loc nD τ sig) → Buf (Elt Ideal) ℓ) (c : Dev nD)

/-- The distances of point `i` to the centroids, as the kernel forms them, by the centroid's number. -/
def line (i : Fin 4096) (k : ℕ) : EReal :=
  if h : k < 8192 then Cert.Dist.kdist (pts m c) (cents m c) i ⟨k, h⟩ else 0

theorem block_line (t : Fin cfg0.N) (r : Fin 512) (l : Fin 1024) :
    k0_pay1 (iblk m c 0 t) (iblk m c 2 t) (iblk m c 1 t) (iblk m c 3 t) (ix2 r l)
      = line m c (row t r) (t.val % 8 * 1024 + l.val) := by
  rw [block_dist]
  unfold line
  rw [dif_pos (by have := l.isLt; omega)]
  rfl

/-- A lane of the scratch: it holds the first least of the blocks met so far and that block's column number. -/
def Lane (i : Fin 4096) (l : Fin 1024) (j : ℕ) (v : EReal) (w : BitVec 32) : Prop :=
  ∃ b, Best (fun q => line m c i (q * 1024 + l.val)) j b ∧ v = line m c i (b * 1024 + l.val)
    ∧ w = BitVec.ofNat 32 (b * 1024 + l.val)

/-- Every lane of every row, after the step `t`. -/
def Lanes (t : Fin cfg0.N) (v : FVec Ideal S512x1024 .f32) (w : IVec S512x1024 32) : Prop :=
  ∀ (r : Fin 512) (l : Fin 1024), Lane m c (row t r) l (t.val % 8) (v (ix2 r l)) (w (ix2 r l))

theorem lanes_first_block (t : Fin cfg0.N) (h : t.val % 8 = 0) :
    Lanes m c t (k0_pay1 (iblk m c 0 t) (iblk m c 2 t) (iblk m c 1 t) (iblk m c 3 t)) (k0_pay2 (grid0.coords t)) := by
  intro r l
  refine ⟨0, ?_, ?_, ?_⟩
  · rw [h]; exact Best.zero _
  · rw [block_line, h]
  · rw [cols_apply, col_val, h]

theorem lanes_next_block (s t : Fin cfg0.N) (hst : t.val = s.val + 1) (h : t.val % 8 ≠ 0)
    (v : FVec Ideal S512x1024 .f32) (w : IVec S512x1024 32) (hl : Lanes m c s v w) :
    Lanes m c t (minimumf (k0_pay1 (iblk m c 0 t) (iblk m c 2 t) (iblk m c 1 t) (iblk m c 3 t)) v)
      (select (cmpf .olt (k0_pay1 (iblk m c 0 t) (iblk m c 2 t) (iblk m c 1 t) (iblk m c 3 t)) v) (k0_pay2 (grid0.coords t)) w) := by
  intro r l
  obtain ⟨b, hb, hv, hw⟩ := hl r l
  have hrow : row s r = row t r := Fin.ext (by show 512 * (s.val / 8) + r.val = 512 * (t.val / 8) + r.val; omega)
  have hmod : t.val % 8 = s.val % 8 + 1 := by omega
  rw [hrow] at hb hv
  have hmin (u : FVec Ideal S512x1024 .f32) : minimumf u v (ix2 r l) = min (u (ix2 r l)) (v (ix2 r l)) := rfl
  have hsel (u : FVec Ideal S512x1024 .f32) (a : IVec S512x1024 32) :
      select (cmpf .olt u v) a w (ix2 r l) = if u (ix2 r l) < v (ix2 r l) then a (ix2 r l) else w (ix2 r l) := by
    pointwise
  refine ⟨_, by rw [hmod]; exact hb.succ, ?_, ?_⟩
  · rw [hmin, block_line, hv, hmod]
    split
    next hlt => exact min_eq_left hlt.le
    next hge => exact min_eq_right (not_lt.mp hge)
  · rw [hsel, block_line, hv, hw, cols_apply, col_val, hmod]
    split <;> rfl

/-- The scratch after step `n`, the last step of a row block aside: nothing reads it there. -/
theorem scratch (n : ℕ) (hn : n < cfg0.N) (h7 : n % 8 ≠ 7) :
    Lanes m c ⟨n, hn⟩ (outsAt0 m c n hn).2.1 (outsAt0 m c n hn).2.2 := by
  induction n with
  | zero =>
    rw [outsAt0_A m c ⟨0, hn⟩ rfl (by dsimp only; omega) (by dsimp only; omega), first_val, first_idx]
    exact lanes_first_block m c ⟨0, hn⟩ rfl
  | succ n ih =>
    by_cases h0 : (n + 1) % 8 = 0
    · rw [outsAt0_A m c ⟨n + 1, hn⟩ h0 (by dsimp only; omega) h7, first_val, first_idx]
      exact lanes_first_block m c ⟨n + 1, hn⟩ h0
    · rw [outsAt0_B m c ⟨n + 1, hn⟩ h0 (by dsimp only; omega) h7, mid_val, mid_idx]
      exact lanes_next_block m c ⟨n, Nat.lt_of_succ_lt hn⟩ ⟨n + 1, hn⟩ rfl h0 _ _ (ih (Nat.lt_of_succ_lt hn) (by omega))

/-- What the last step of a row block writes: each row's first least column. -/
theorem emitted (t : Fin cfg0.N) (h7 : t.val % 8 = 7) (r : Fin 512) :
    ∃ k, First (line m c (row t r)) 8192 k ∧ (outsAt0 m c t.val t.isLt).1 (ix2 r 0) = BitVec.ofNat 32 k := by
  obtain ⟨n, hn⟩ := t
  obtain ⟨n, rfl⟩ : ∃ n', n = n' + 1 := ⟨n - 1, by dsimp only at h7; omega⟩
  have h0 : ¬ (n + 1) % 8 = 0 := by dsimp only at h7; omega
  rw [outsAt0_C m c ⟨n + 1, hn⟩ h0 (by dsimp only; omega) h7, last_out]
  have hl := lanes_next_block m c ⟨n, Nat.lt_of_succ_lt hn⟩ ⟨n + 1, hn⟩ rfl h0 _ _
    (scratch m c n (Nat.lt_of_succ_lt hn) (by dsimp only at h7; omega))
  have emit (v : FVec Ideal S512x1024 .f32) (w : IVec S512x1024 32) : k0_pay7 (F := Ideal) v w (ix2 r 0)
      = Finset.fold IntOp.minsi (2147483647#32) (fun l : Fin 1024 =>
          if v (ix2 r l) = Finset.fold min (Ideal.ofBits .f32 0x7F800000#32) (fun l : Fin 1024 => v (ix2 r l)) Finset.univ
          then w (ix2 r l) else 8192#32) Finset.univ := by
    pointwise [k0_pay7]
  dsimp only at h7 ⊢
  erw [emit]
  refine lanes_first (line m c (row ⟨n + 1, hn⟩ r)) _ _ fun l => ?_
  have h := hl r l
  unfold Lane at h
  rw [h7] at h
  exact h

/-! ### The output array -/

/-- The step that writes the block holding row `i`. -/
def writer (i : S4096x1.Idx) : Fin cfg0.N :=
  ⟨8 * ((i 0).val / 512) + 7, by have h : (i 0).val < 4096 := (i 0).isLt; have := steps; omega⟩

/-- The output array: each row as the step that writes its block leaves it. -/
def winners : Buf (Elt Ideal) ((c : Thread nD τ).loc main_v6) := fun i =>
  (outsAt0 m c (writer i).val (writer i).isLt).1 (ix2 ⟨(i 0).val % 512, Nat.mod_lt _ (by decide)⟩ 0)

theorem outsAt0_congr (n n' : ℕ) (hn : n < cfg0.N) (hn' : n' < cfg0.N) (e : n = n') :
    outsAt0 m c n hn = outsAt0 m c n' hn' := by subst e; rfl

theorem written (t : Fin cfg0.N) (hf : (cfg0.win 4).flush t = true) :
    (dats m 0 c).flushed 4 t = ((cfg0.win 4).blk t).view.read (Elt Ideal) (winners m c) := by
  have h7 : t.val % 8 = 7 := (flush0_4 t).mp hf
  have hw := (wins t).2.2.2.2.1
  show (cfg0.win 4).cut (grid0.coords t) ((dats m 0 c).after 4 t) = _
  rw [after0_4]
  funext y
  have hy0 : (y 0).val < 512 := (y 0).isLt
  have hy1 : (y 1).val < 1 := (y 1).isLt
  have e0 : (((cfg0.win 4).blk t).view.emb y 0).val = win0_4.index t (0 : Fin 2) * 512 + 1 * (y 0).val := rfl
  show (outsAt0 m c t.val t.isLt).1 ((cfg0.win 4).xinj (grid0.coords t) y) = winners m c (((cfg0.win 4).blk t).view.emb y)
  unfold winners
  rw [outsAt0_congr m c t.val _ t.isLt (writer (((cfg0.win 4).blk t).view.emb y)).isLt (by
    show t.val = 8 * ((((cfg0.win 4).blk t).view.emb y 0).val / 512) + 7
    rw [e0, hw.1]; omega)]
  refine congrArg _ (funext fun a => Fin.ext ?_)
  match a with
  | ⟨0, _⟩ => show (y 0).val = (((cfg0.win 4).blk t).view.emb y 0).val % 512; rw [e0, hw.1]; omega
  | ⟨1, _⟩ => show (y 1).val = 0; omega

/-- Every row lies in a block some step writes, so the array ends as `winners`. -/
theorem final : (dats m 0 c).arrAt 4 cfg0.N = winners m c :=
  (dats m 0 c).arrAt_eq_of_cover 4 (winners m c) (written m c) fun i => by
    have hi0 : (i 0).val < 4096 := (i 0).isLt
    have hi1 : (i 1).val < 1 := (i 1).isLt
    have hv : (writer i).val = 8 * ((i 0).val / 512) + 7 := rfl
    have hw := (wins (writer i)).2.2.2.2.1
    refine ⟨writer i, (flush0_4 (writer i)).mpr (by rw [hv]; omega), ?_⟩
    show i ∈ ((View.whole main_v6).slice (win0_4.rect (writer i))).set
    rw [View.set_slice_whole, Rect.mem_set_unit]
    intro a
    match a with
    | ⟨0, _⟩ =>
      show win0_4.index (writer i) (0 : Fin 2) * 512 ≤ (i 0).val ∧ (i 0).val < win0_4.index (writer i) (0 : Fin 2) * 512 + 512
      rw [hw.1, hv]; omega
    | ⟨1, _⟩ =>
      show win0_4.index (writer i) (1 : Fin 2) * 1 ≤ (i 1).val ∧ (i 1).val < win0_4.index (writer i) (1 : Fin 2) * 1 + 1
      rw [hw.2]; omega

/-- Row `i` of the output array is the first column at which that point's distances are least. -/
theorem winners_first (i : Fin 4096) : ∃ k, First (line m c i) 8192 k ∧ winners m c (ix2 i 0) = BitVec.ofNat 32 k := by
  have hv : (writer (ix2 i 0)).val = 8 * (i.val / 512) + 7 := rfl
  have h := emitted m c (writer (ix2 i 0)) (by rw [hv]; omega) ⟨i.val % 512, Nat.mod_lt _ (by decide)⟩
  have hr : row (writer (ix2 i 0)) ⟨i.val % 512, Nat.mod_lt _ (by decide)⟩ = i := by
    apply Fin.ext
    show 512 * ((writer (ix2 i 0)).val / 8) + i.val % 512 = i.val
    rw [hv]; omega
  rw [hr] at h
  exact h

end Cert.KernelIdeal.Body

end
-- ==== Proof.Tail.lean ====
/- The kernel's two results, read after the host operations that follow the launch. -/
module

public import proofs.«01_k».proof.Proof.Sweep

@[expose] public section

noncomputable section

namespace Cert.KernelIdeal.Body

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The labels: the launch's output array, its unit axis dropped. -/
theorem tail_labels : Pipeline.afterTail₀ cfgs (dats m) 0 (V0 m) [hostOps1] c main_v7
    = shapeCast S4096 (winners m c) shapeCasts_S4096x1_S4096 := by
  unfold Pipeline.afterTail₀
  simp only [List.flatten_cons, List.flatten_nil, List.append_nil]
  after_results
  have h := Pipeline.withArrays_arr spec0 winFacts0.arr_inj c (V0 m c) (fun w => (dats m 0 c).arrAt w (cfgs 0).N) 4
  exact congrArg (fun b => shapeCast S4096 b shapeCasts_S4096x1_S4096) (h.trans (final m c))

/-- The centroids, which the launch only reads, with a leading unit axis. -/
theorem tail_cents : Pipeline.afterTail₀ cfgs (dats m) 0 (V0 m) [hostOps1] c main_v8
    = broadcastInDim S1x8192x256 ![1, 2] bcast_S8192x256_S1x8192x256_1_2 (cents m c) := by
  unfold Pipeline.afterTail₀
  simp only [List.flatten_cons, List.flatten_nil, List.append_nil]
  after_results
  have h := Pipeline.withArrays_arr spec0 winFacts0.arr_inj c (V0 m c) (fun w => (dats m 0 c).arrAt w (cfgs 0).N) 2
  have h' : (dats m 0 c).arrAt 2 (cfgs 0).N = cents m c :=
    (((dats m 0 c).arrAt_in 2 rfl _).trans (A_eq m c 2)).trans (V_main_arg1 m c)
  exact congrArg (broadcastInDim S1x8192x256 ![1, 2] bcast_S8192x256_S1x8192x256_1_2) (h.trans h')

/-- The label of point `i` is the number of the first centroid at the least distance. -/
theorem labels_first (i : Fin 4096) : ∃ k, Cert.Argmin.First (line m c i) 8192 k ∧
    shapeCast S4096 (winners m c) shapeCasts_S4096x1_S4096 (ix1 i) = BitVec.ofNat 32 k := by
  obtain ⟨k, hk, h⟩ := winners_first m c i
  refine ⟨k, hk, ?_⟩
  rw [← h]
  pointwise

end Cert.KernelIdeal.Body

end
-- ==== Proof.Claims.lean ====
/- The value claim. It runs both programs, reads the kernel's two results after its host tail, and
   compares the labels point by point: each is the first centroid at the least distance. -/
module

public import proofs.«01_k».proof.Proof.Tail
public import proofs.«01_k».proof.Proof.Reference

@[expose] public section

noncomputable section

namespace Cert.Claims

open Idealize.ShloMosaic Idealize.ShloMosaic.TcCoe Idealize.SL.Sem
open Cert.KernelIdeal.Body (pts cents line winners)

/-- Under the precondition the kernel's distances of a point are the reference's. -/
theorem line_eq (m : (ℓ : Loc Cert.KernelIdeal.nD Cert.KernelIdeal.τ Cert.KernelIdeal.sig) → Buf (Elt Ideal) ℓ)
    (hpre : Cert.Pre_KernelIdeal_finite m) (c : Dev Cert.KernelIdeal.nD) (i : Fin 4096) (k : Fin 8192) :
    line m c i k.val = Cert.Dist.dist (pts m c) (cents m c) i k := by
  unfold line
  rw [dif_pos k.isLt]
  exact Cert.Dist.kdist_eq _ _ _ _ (Cert.Reference.real_points _ _ (hpre c).1 i) (Cert.Reference.real_cents _ _ (hpre c).2 k)

/-- At one point, the label of a matrix holding the reference's distances is the kernel's. -/
theorem label_eq (m : (ℓ : Loc Cert.KernelIdeal.nD Cert.KernelIdeal.τ Cert.KernelIdeal.sig) → Buf (Elt Ideal) ℓ)
    (hpre : Cert.Pre_KernelIdeal_finite m) (c : Dev Cert.KernelIdeal.nD)
    (x : FVec Ideal Cert.Argmin.S4096x8192 .f32)
    (hx : ∀ (i : Fin 4096) (k : Fin 8192), x (ix2 i k) = Cert.Dist.dist (pts m c) (cents m c) i k)
    (h : Cert.Argmin.S4096x8192.ReducesTo [1] Cert.Argmin.S4096) {u : Shape} (hu : 0 < u.numel) (i : Fin 4096) :
    (Host.argReduce Cert.ReferenceIdeal.reducer_argmin_f32_i32 x (iotaInDim Cert.Argmin.S4096x8192 32 1)
        (constant u .f32 0x7F800000#32) (constantI u 32 0#32) h hu (ix1 i)).2
      = shapeCast Cert.KernelIdeal.S4096 (winners m c) Cert.KernelIdeal.Gen.shapeCasts_S4096x1_S4096 (ix1 i) := by
  obtain ⟨k, hk, ek⟩ := Cert.KernelIdeal.Body.labels_first m c i
  obtain ⟨k', hk', ek'⟩ := Cert.Argmin.ref_first x h hu i (line m c i) fun k => (line_eq m hpre c i k).trans (hx i k).symm
  rw [ek, ek', hk.unique hk']

theorem algebraic : Cert.algebraic_KernelIdeal_ReferenceIdeal_pre_finite (hKernelIdeal := Cert.KernelIdeal.Gen.facts)
    (hReferenceIdeal := Cert.ReferenceIdeal.Gen.facts) (hPre_finite := inferInstance) := by
  pair_intro
  · run_from Cert.KernelIdeal.Gen.run_main m g
  · hlo_run
    · rw [Cert.KernelIdeal.Body.tail_cents]
    · rw [Cert.KernelIdeal.Body.tail_labels]
      simp only [StableHlo.TRef.ofBuf_toBuf]
      simp -implicitDefEqProofs only [StableHlo.TRef.toBuf, StableHlo.TRef.ofBuf, cast_eq]
      funext j
      obtain ⟨i, rfl⟩ : ∃ i : Fin 4096, j = ix1 i := ⟨j 0, by funext a; fin_cases a; rfl⟩
      exact label_eq m hpre c _ (Cert.Reference.distances_apply (pts m c) (cents m c)) _ _ i

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Lib.Claim
public import proofs.«01_k».proof.Proof.Gen.Pre_finite
public import proofs.«01_k».proof.Proof.Reference
public import proofs.«01_k».proof.Proof.Claims
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, inferInstance,
    fun m g _ => Cert.Kernel.Gen.frame m g, fun m g _ => Cert.KernelIdeal.Gen.frame m g,
    fun m g _ => Cert.KernelIdeal.Gen.frame m g, Cert.Reference.frame, fun m g _ => Cert.Reference.frame m g trivial,
    trivial, Cert.Claims.algebraic⟩

end Cert.Proof

end
